-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x200x6 : Shape := ⟨3, ![4096, 200, 6]⟩
abbrev S4096 : Shape := ⟨1, ![4096]⟩
abbrev S4096x200 : Shape := ⟨2, ![4096, 200]⟩
abbrev S100000x10 : Shape := ⟨2, ![100000, 10]⟩
abbrev S88x8 : Shape := ⟨2, ![88, 8]⟩
abbrev S1000x5 : Shape := ⟨2, ![1000, 5]⟩
abbrev S1000x3 : Shape := ⟨2, ![1000, 3]⟩
abbrev S1000x2 : Shape := ⟨2, ![1000, 2]⟩
abbrev S40x40 : Shape := ⟨2, ![40, 40]⟩
abbrev S40x1 : Shape := ⟨2, ![40, 1]⟩
abbrev S48x4 : Shape := ⟨2, ![48, 4]⟩
abbrev S4 : Shape := ⟨1, ![4]⟩
abbrev S200x4 : Shape := ⟨2, ![200, 4]⟩
abbrev S200x4096 : Shape := ⟨2, ![200, 4096]⟩
abbrev S1x4 : Shape := ⟨2, ![1, 4]⟩
abbrev S201x4 : Shape := ⟨2, ![201, 4]⟩
abbrev S4x201 : Shape := ⟨2, ![4, 201]⟩
abbrev S4x4096 : Shape := ⟨2, ![4, 4096]⟩
abbrev S4x200 : Shape := ⟨2, ![4, 200]⟩
abbrev S4x1 : Shape := ⟨2, ![4, 1]⟩
abbrev S4096x4 : Shape := ⟨2, ![4096, 4]⟩

abbrev nBuf : Space → Nat
  | .hbm => 22
  | .vmem => 3
  | .smem => 0
  | _ => 0

abbrev bufTy : (tb : Table) → Fin (tcTables nBuf tb) → BufTy
  | .hbm, ⟨0, _⟩ => ⟨S4096x200x6, .i32⟩
  | .hbm, ⟨1, _⟩ => ⟨S4096, .i32⟩
  | .hbm, ⟨2, _⟩ => ⟨S4096, .i32⟩
  | .hbm, ⟨3, _⟩ => ⟨S4096x200, .f32⟩
  | .hbm, ⟨4, _⟩ => ⟨S4096x200, .f32⟩
  | .hbm, ⟨5, _⟩ => ⟨S100000x10, .f32⟩
  | .hbm, ⟨6, _⟩ => ⟨S88x8, .f32⟩
  | .hbm, ⟨7, _⟩ => ⟨S1000x5, .f32⟩
  | .hbm, ⟨8, _⟩ => ⟨S1000x3, .f32⟩
  | .hbm, ⟨9, _⟩ => ⟨S1000x2, .f32⟩
  | .hbm, ⟨10, _⟩ => ⟨S40x40, .f32⟩
  | .hbm, ⟨11, _⟩ => ⟨S40x1, .f32⟩
  | .hbm, ⟨12, _⟩ => ⟨S48x4, .f32⟩
  | .hbm, ⟨13, _⟩ => ⟨S4, .f32⟩
  | .hbm, ⟨14, _⟩ => ⟨S200x4, .f32⟩
  | .hbm, ⟨15, _⟩ => ⟨S4, .f32⟩
  | .hbm, ⟨16, _⟩ => ⟨S200x4096, .f32⟩
  | .hbm, ⟨17, _⟩ => ⟨S1x4, .f32⟩
  | .hbm, ⟨18, _⟩ => ⟨S201x4, .f32⟩
  | .hbm, ⟨19, _⟩ => ⟨S4x201, .f32⟩
  | .hbm, ⟨20, _⟩ => ⟨S4x4096, .f32⟩
  | .hbm, ⟨21, _⟩ => ⟨S4096x4, .f32⟩
  | .local _ .vmem, ⟨0, _⟩ => ⟨S4x201, .f32⟩
  | .local _ .vmem, ⟨1, _⟩ => ⟨S200x4096, .f32⟩
  | .local _ .vmem, ⟨2, _⟩ => ⟨S4x4096, .f32⟩
  | _, _ => ⟨S4096x200x6, .i32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4x201 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S200x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x200x6 : Shape := ⟨3, ![4096, 200, 6]⟩
abbrev S4096 : Shape := ⟨1, ![4096]⟩
abbrev S4096x200 : Shape := ⟨2, ![4096, 200]⟩
abbrev S100000x10 : Shape := ⟨2, ![100000, 10]⟩
abbrev S88x8 : Shape := ⟨2, ![88, 8]⟩
abbrev S1000x5 : Shape := ⟨2, ![1000, 5]⟩
abbrev S1000x3 : Shape := ⟨2, ![1000, 3]⟩
abbrev S1000x2 : Shape := ⟨2, ![1000, 2]⟩
abbrev S40x40 : Shape := ⟨2, ![40, 40]⟩
abbrev S40x1 : Shape := ⟨2, ![40, 1]⟩
abbrev S48x4 : Shape := ⟨2, ![48, 4]⟩
abbrev S4 : Shape := ⟨1, ![4]⟩
abbrev S200x4 : Shape := ⟨2, ![200, 4]⟩
abbrev S4096x200x3 : Shape := ⟨3, ![4096, 200, 3]⟩
abbrev S4096x200x1 : Shape := ⟨3, ![4096, 200, 1]⟩
abbrev S_ : Shape := ⟨0, ![]⟩
abbrev S4096x200x3x1 : Shape := ⟨4, ![4096, 200, 3, 1]⟩
abbrev S1 : Shape := ⟨1, ![1]⟩
abbrev S1x1x1x1 : Shape := ⟨4, ![1, 1, 1, 1]⟩
abbrev S4096x200x3x10 : Shape := ⟨4, ![4096, 200, 3, 10]⟩
abbrev S1x1x1 : Shape := ⟨3, ![1, 1, 1]⟩
abbrev S4096x200x5 : Shape := ⟨3, ![4096, 200, 5]⟩
abbrev S4096x200x2 : Shape := ⟨3, ![4096, 200, 2]⟩
abbrev S4096x1 : Shape := ⟨2, ![4096, 1]⟩
abbrev S1x1 : Shape := ⟨2, ![1, 1]⟩
abbrev S4096x8 : Shape := ⟨2, ![4096, 8]⟩
abbrev S4096x200x30 : Shape := ⟨3, ![4096, 200, 30]⟩
abbrev S4096x200x40 : Shape := ⟨3, ![4096, 200, 40]⟩
abbrev S4096x1x1 : Shape := ⟨3, ![4096, 1, 1]⟩
abbrev S4096x40 : Shape := ⟨2, ![4096, 40]⟩
abbrev S4096x48 : Shape := ⟨2, ![4096, 48]⟩
abbrev S4096x4 : Shape := ⟨2, ![4096, 4]⟩
abbrev S1x4 : Shape := ⟨2, ![1, 4]⟩

abbrev nBuf : Space → Nat
  | .hbm => 179
  | .vmem => 0
  | .smem => 0
  | _ => 0

abbrev hbmTy0_0 (i : Nat) : BufTy := match i % 128 with
  | 0 => ⟨S4096x200x6, .i32⟩
  | 1 => ⟨S4096, .i32⟩
  | 2 => ⟨S4096, .i32⟩
  | 3 => ⟨S4096x200, .f32⟩
  | 4 => ⟨S4096x200, .f32⟩
  | 5 => ⟨S100000x10, .f32⟩
  | 6 => ⟨S88x8, .f32⟩
  | 7 => ⟨S1000x5, .f32⟩
  | 8 => ⟨S1000x3, .f32⟩
  | 9 => ⟨S1000x2, .f32⟩
  | 10 => ⟨S40x40, .f32⟩
  | 11 => ⟨S40x1, .f32⟩
  | 12 => ⟨S48x4, .f32⟩
  | 13 => ⟨S4, .f32⟩
  | 14 => ⟨S200x4, .f32⟩
  | 15 => ⟨S4, .f32⟩
  | 16 => ⟨S4096x200x3, .i32⟩
  | 17 => ⟨S4096x200x1, .i32⟩
  | 18 => ⟨S4096x200, .i32⟩
  | 19 => ⟨S4096x200x1, .i32⟩
  | 20 => ⟨S4096x200, .i32⟩
  | 21 => ⟨S4096x200x1, .i32⟩
  | 22 => ⟨S4096x200, .i32⟩
  | 23 => ⟨S_, .i32⟩
  | 24 => ⟨S4096x200x3, .i32⟩
  | 25 => ⟨S4096x200x3, .i1⟩
  | 26 => ⟨S_, .i32⟩
  | 27 => ⟨S4096x200x3, .i32⟩
  | 28 => ⟨S4096x200x3, .i32⟩
  | 29 => ⟨S4096x200x3, .i32⟩
  | 30 => ⟨S4096x200x3x1, .i32⟩
  | 31 => ⟨S1, .i32⟩
  | 32 => ⟨S_, .i32⟩
  | 33 => ⟨S4096x200x3x1, .i32⟩
  | 34 => ⟨S4096x200x3x1, .i1⟩
  | 35 => ⟨S1x1x1x1, .i32⟩
  | 36 => ⟨S4096x200x3x1, .i32⟩
  | 37 => ⟨S4096x200x3x1, .i1⟩
  | 38 => ⟨S4096x200x3x1, .i1⟩
  | 39 => ⟨S_, .i1⟩
  | 40 => ⟨S4096x200x3, .i1⟩
  | 41 => ⟨S4096x200x3x10, .f32⟩
  | 42 => ⟨S4096x200x3x10, .i1⟩
  | 43 => ⟨S_, .f32⟩
  | 44 => ⟨S4096x200x3x10, .f32⟩
  | 45 => ⟨S4096x200x3x10, .f32⟩
  | 46 => ⟨S_, .i32⟩
  | 47 => ⟨S4096x200, .i32⟩
  | 48 => ⟨S4096x200, .i1⟩
  | 49 => ⟨S_, .i32⟩
  | 50 => ⟨S4096x200, .i32⟩
  | 51 => ⟨S4096x200, .i32⟩
  | 52 => ⟨S4096x200, .i32⟩
  | 53 => ⟨S4096x200x1, .i32⟩
  | 54 => ⟨S1, .i32⟩
  | 55 => ⟨S_, .i32⟩
  | 56 => ⟨S4096x200x1, .i32⟩
  | 57 => ⟨S4096x200x1, .i1⟩
  | 58 => ⟨S1x1x1, .i32⟩
  | 59 => ⟨S4096x200x1, .i32⟩
  | 60 => ⟨S4096x200x1, .i1⟩
  | 61 => ⟨S4096x200x1, .i1⟩
  | 62 => ⟨S_, .i1⟩
  | 63 => ⟨S4096x200, .i1⟩
  | 64 => ⟨S4096x200x5, .f32⟩
  | 65 => ⟨S4096x200x5, .i1⟩
  | 66 => ⟨S_, .f32⟩
  | 67 => ⟨S4096x200x5, .f32⟩
  | 68 => ⟨S4096x200x5, .f32⟩
  | 69 => ⟨S_, .i32⟩
  | 70 => ⟨S4096x200, .i32⟩
  | 71 => ⟨S4096x200, .i1⟩
  | 72 => ⟨S_, .i32⟩
  | 73 => ⟨S4096x200, .i32⟩
  | 74 => ⟨S4096x200, .i32⟩
  | 75 => ⟨S4096x200, .i32⟩
  | 76 => ⟨S4096x200x1, .i32⟩
  | 77 => ⟨S1, .i32⟩
  | 78 => ⟨S_, .i32⟩
  | 79 => ⟨S4096x200x1, .i32⟩
  | 80 => ⟨S4096x200x1, .i1⟩
  | 81 => ⟨S1x1x1, .i32⟩
  | 82 => ⟨S4096x200x1, .i32⟩
  | 83 => ⟨S4096x200x1, .i1⟩
  | 84 => ⟨S4096x200x1, .i1⟩
  | 85 => ⟨S_, .i1⟩
  | 86 => ⟨S4096x200, .i1⟩
  | 87 => ⟨S4096x200x3, .f32⟩
  | 88 => ⟨S4096x200x3, .i1⟩
  | 89 => ⟨S_, .f32⟩
  | 90 => ⟨S4096x200x3, .f32⟩
  | 91 => ⟨S4096x200x3, .f32⟩
  | 92 => ⟨S_, .i32⟩
  | 93 => ⟨S4096x200, .i32⟩
  | 94 => ⟨S4096x200, .i1⟩
  | 95 => ⟨S_, .i32⟩
  | 96 => ⟨S4096x200, .i32⟩
  | 97 => ⟨S4096x200, .i32⟩
  | 98 => ⟨S4096x200, .i32⟩
  | 99 => ⟨S4096x200x1, .i32⟩
  | 100 => ⟨S1, .i32⟩
  | 101 => ⟨S_, .i32⟩
  | 102 => ⟨S4096x200x1, .i32⟩
  | 103 => ⟨S4096x200x1, .i1⟩
  | 104 => ⟨S1x1x1, .i32⟩
  | 105 => ⟨S4096x200x1, .i32⟩
  | 106 => ⟨S4096x200x1, .i1⟩
  | 107 => ⟨S4096x200x1, .i1⟩
  | 108 => ⟨S_, .i1⟩
  | 109 => ⟨S4096x200, .i1⟩
  | 110 => ⟨S4096x200x2, .f32⟩
  | 111 => ⟨S4096x200x2, .i1⟩
  | 112 => ⟨S_, .f32⟩
  | 113 => ⟨S4096x200x2, .f32⟩
  | 114 => ⟨S4096x200x2, .f32⟩
  | 115 => ⟨S_, .i32⟩
  | 116 => ⟨S4096, .i32⟩
  | 117 => ⟨S4096, .i1⟩
  | 118 => ⟨S_, .i32⟩
  | 119 => ⟨S4096, .i32⟩
  | 120 => ⟨S4096, .i32⟩
  | 121 => ⟨S4096, .i32⟩
  | 122 => ⟨S4096x1, .i32⟩
  | 123 => ⟨S1, .i32⟩
  | 124 => ⟨S_, .i32⟩
  | 125 => ⟨S4096x1, .i32⟩
  | 126 => ⟨S4096x1, .i1⟩
  | 127 => ⟨S1x1, .i32⟩
  | _ => ⟨S4096x200x6, .i32⟩

abbrev hbmTy0_1 (i : Nat) : BufTy := match i % 128 with
  | 0 => ⟨S4096x1, .i32⟩
  | 1 => ⟨S4096x1, .i1⟩
  | 2 => ⟨S4096x1, .i1⟩
  | 3 => ⟨S_, .i1⟩
  | 4 => ⟨S4096, .i1⟩
  | 5 => ⟨S4096x8, .f32⟩
  | 6 => ⟨S4096x8, .i1⟩
  | 7 => ⟨S_, .f32⟩
  | 8 => ⟨S4096x8, .f32⟩
  | 9 => ⟨S4096x8, .f32⟩
  | 10 => ⟨S4096x200x30, .f32⟩
  | 11 => ⟨S4096x200x40, .f32⟩
  | 12 => ⟨S4096x200x1, .f32⟩
  | 13 => ⟨S4096x200x40, .f32⟩
  | 14 => ⟨S4096x200x40, .f32⟩
  | 15 => ⟨S4096x200x1, .f32⟩
  | 16 => ⟨S_, .f32⟩
  | 17 => ⟨S4096x200x1, .f32⟩
  | 18 => ⟨S4096x200x1, .f32⟩
  | 19 => ⟨S_, .f32⟩
  | 20 => ⟨S4096x200x1, .f32⟩
  | 21 => ⟨S4096x200x1, .f32⟩
  | 22 => ⟨S4096x200x1, .f32⟩
  | 23 => ⟨S_, .f32⟩
  | 24 => ⟨S4096x1, .f32⟩
  | 25 => ⟨S_, .f32⟩
  | 26 => ⟨S4096x1, .f32⟩
  | 27 => ⟨S4096x1, .f32⟩
  | 28 => ⟨S4096x1x1, .f32⟩
  | 29 => ⟨S4096x200x1, .f32⟩
  | 30 => ⟨S4096x200x1, .f32⟩
  | 31 => ⟨S4096x200x1, .f32⟩
  | 32 => ⟨S_, .f32⟩
  | 33 => ⟨S4096x1, .f32⟩
  | 34 => ⟨S4096x1x1, .f32⟩
  | 35 => ⟨S4096x200x1, .f32⟩
  | 36 => ⟨S4096x200x1, .f32⟩
  | 37 => ⟨S4096x200x40, .f32⟩
  | 38 => ⟨S4096x200x40, .f32⟩
  | 39 => ⟨S_, .f32⟩
  | 40 => ⟨S4096x40, .f32⟩
  | 41 => ⟨S4096x48, .f32⟩
  | 42 => ⟨S4096x4, .f32⟩
  | 43 => ⟨S1x4, .f32⟩
  | 44 => ⟨S4096x4, .f32⟩
  | 45 => ⟨S4096x4, .f32⟩
  | 46 => ⟨S4096x4, .f32⟩
  | 47 => ⟨S1x4, .f32⟩
  | 48 => ⟨S4096x4, .f32⟩
  | 49 => ⟨S4096x4, .f32⟩
  | 50 => ⟨S4096x4, .f32⟩
  | _ => ⟨S4096x200x6, .i32⟩

abbrev hbmTy (i : Nat) : BufTy := match i / 128 with
  | 0 => hbmTy0_0 i
  | 1 => hbmTy0_1 i
  | _ => ⟨S4096x200x6, .i32⟩

abbrev bufTy : (tb : Table) → Fin (tcTables nBuf tb) → BufTy
  | .hbm, ⟨i, _⟩ => hbmTy i
  | _, _ => ⟨S4096x200x6, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_call0_c : Ref sig .tc := ⟨.hbm, 23, rfl⟩
abbrev main_call0_v0 : Ref sig .tc := ⟨.hbm, 24, rfl⟩
abbrev main_call0_v1 : Ref sig .tc := ⟨.hbm, 25, rfl⟩
abbrev main_call0_c_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_c_1 : Ref sig .tc := ⟨.hbm, 31, rfl⟩
abbrev main_call0_c_2 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_c_3 : Ref sig .tc := ⟨.hbm, 39, rfl⟩
abbrev main_call0_v12 : Ref sig .tc := ⟨.hbm, 40, rfl⟩
abbrev main_call0_v13 : Ref sig .tc := ⟨.hbm, 41, rfl⟩
abbrev main_call0_v14 : Ref sig .tc := ⟨.hbm, 42, rfl⟩
abbrev main_call0_cst : Ref sig .tc := ⟨.hbm, 43, rfl⟩
abbrev main_call0_v15 : Ref sig .tc := ⟨.hbm, 44, rfl⟩
abbrev main_v7 : Ref sig .tc := ⟨.hbm, 45, rfl⟩
abbrev main_call1_c : Ref sig .tc := ⟨.hbm, 46, rfl⟩
abbrev main_call1_v0 : Ref sig .tc := ⟨.hbm, 47, rfl⟩
abbrev main_call1_v1 : Ref sig .tc := ⟨.hbm, 48, rfl⟩
abbrev main_call1_c_0 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_v5 : Ref sig .tc := ⟨.hbm, 53, rfl⟩
abbrev main_call1_c_1 : Ref sig .tc := ⟨.hbm, 54, rfl⟩
abbrev main_call1_c_2 : Ref sig .tc := ⟨.hbm, 55, rfl⟩
abbrev main_call1_v6 : Ref sig .tc := ⟨.hbm, 56, rfl⟩
abbrev main_call1_v7 : Ref sig .tc := ⟨.hbm, 57, rfl⟩
abbrev main_call1_v8 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_c_3 : Ref sig .tc := ⟨.hbm, 62, rfl⟩
abbrev main_call1_v12 : Ref sig .tc := ⟨.hbm, 63, rfl⟩
abbrev main_call1_v13 : Ref sig .tc := ⟨.hbm, 64, rfl⟩
abbrev main_call1_v14 : Ref sig .tc := ⟨.hbm, 65, rfl⟩
abbrev main_call1_cst : Ref sig .tc := ⟨.hbm, 66, rfl⟩
abbrev main_call1_v15 : Ref sig .tc := ⟨.hbm, 67, rfl⟩
abbrev main_v8 : Ref sig .tc := ⟨.hbm, 68, rfl⟩
abbrev main_call2_c : Ref sig .tc := ⟨.hbm, 69, rfl⟩
abbrev main_call2_v0 : Ref sig .tc := ⟨.hbm, 70, rfl⟩
abbrev main_call2_v1 : Ref sig .tc := ⟨.hbm, 71, rfl⟩
abbrev main_call2_c_0 : Ref sig .tc := ⟨.hbm, 72, rfl⟩
abbrev main_call2_v2 : Ref sig .tc := ⟨.hbm, 73, rfl⟩
abbrev main_call2_v3 : Ref sig .tc := ⟨.hbm, 74, rfl⟩
abbrev main_call2_v4 : Ref sig .tc := ⟨.hbm, 75, rfl⟩
abbrev main_call2_v5 : Ref sig .tc := ⟨.hbm, 76, rfl⟩
abbrev main_call2_c_1 : Ref sig .tc := ⟨.hbm, 77, rfl⟩
abbrev main_call2_c_2 : Ref sig .tc := ⟨.hbm, 78, rfl⟩
abbrev main_call2_v6 : Ref sig .tc := ⟨.hbm, 79, rfl⟩
abbrev main_call2_v7 : Ref sig .tc := ⟨.hbm, 80, rfl⟩
abbrev main_call2_v8 : Ref sig .tc := ⟨.hbm, 81, rfl⟩
abbrev main_call2_v9 : Ref sig .tc := ⟨.hbm, 82, rfl⟩
abbrev main_call2_v10 : Ref sig .tc := ⟨.hbm, 83, rfl⟩
abbrev main_call2_v11 : Ref sig .tc := ⟨.hbm, 84, rfl⟩
abbrev main_call2_c_3 : Ref sig .tc := ⟨.hbm, 85, rfl⟩
abbrev main_call2_v12 : Ref sig .tc := ⟨.hbm, 86, rfl⟩
abbrev main_call2_v13 : Ref sig .tc := ⟨.hbm, 87, rfl⟩
abbrev main_call2_v14 : Ref sig .tc := ⟨.hbm, 88, rfl⟩
abbrev main_call2_cst : Ref sig .tc := ⟨.hbm, 89, rfl⟩
abbrev main_call2_v15 : Ref sig .tc := ⟨.hbm, 90, rfl⟩
abbrev main_v9 : Ref sig .tc := ⟨.hbm, 91, rfl⟩
abbrev main_call3_c : Ref sig .tc := ⟨.hbm, 92, rfl⟩
abbrev main_call3_v0 : Ref sig .tc := ⟨.hbm, 93, rfl⟩
abbrev main_call3_v1 : Ref sig .tc := ⟨.hbm, 94, rfl⟩
abbrev main_call3_c_0 : Ref sig .tc := ⟨.hbm, 95, rfl⟩
abbrev main_call3_v2 : Ref sig .tc := ⟨.hbm, 96, rfl⟩
abbrev main_call3_v3 : Ref sig .tc := ⟨.hbm, 97, rfl⟩
abbrev main_call3_v4 : Ref sig .tc := ⟨.hbm, 98, rfl⟩
abbrev main_call3_v5 : Ref sig .tc := ⟨.hbm, 99, rfl⟩
abbrev main_call3_c_1 : Ref sig .tc := ⟨.hbm, 100, rfl⟩
abbrev main_call3_c_2 : Ref sig .tc := ⟨.hbm, 101, rfl⟩
abbrev main_call3_v6 : Ref sig .tc := ⟨.hbm, 102, rfl⟩
abbrev main_call3_v7 : Ref sig .tc := ⟨.hbm, 103, rfl⟩
abbrev main_call3_v8 : Ref sig .tc := ⟨.hbm, 104, rfl⟩
abbrev main_call3_v9 : Ref sig .tc := ⟨.hbm, 105, rfl⟩
abbrev main_call3_v10 : Ref sig .tc := ⟨.hbm, 106, rfl⟩
abbrev main_call3_v11 : Ref sig .tc := ⟨.hbm, 107, rfl⟩
abbrev main_call3_c_3 : Ref sig .tc := ⟨.hbm, 108, rfl⟩
abbrev main_call3_v12 : Ref sig .tc := ⟨.hbm, 109, rfl⟩
abbrev main_call3_v13 : Ref sig .tc := ⟨.hbm, 110, rfl⟩
abbrev main_call3_v14 : Ref sig .tc := ⟨.hbm, 111, rfl⟩
abbrev main_call3_cst : Ref sig .tc := ⟨.hbm, 112, rfl⟩
abbrev main_call3_v15 : Ref sig .tc := ⟨.hbm, 113, rfl⟩
abbrev main_v10 : Ref sig .tc := ⟨.hbm, 114, rfl⟩
abbrev main_call4_c : Ref sig .tc := ⟨.hbm, 115, rfl⟩
abbrev main_call4_v0 : Ref sig .tc := ⟨.hbm, 116, rfl⟩
abbrev main_call4_v1 : Ref sig .tc := ⟨.hbm, 117, rfl⟩
abbrev main_call4_c_0 : Ref sig .tc := ⟨.hbm, 118, rfl⟩
abbrev main_call4_v2 : Ref sig .tc := ⟨.hbm, 119, rfl⟩
abbrev main_call4_v3 : Ref sig .tc := ⟨.hbm, 120, rfl⟩
abbrev main_call4_v4 : Ref sig .tc := ⟨.hbm, 121, rfl⟩
abbrev main_call4_v5 : Ref sig .tc := ⟨.hbm, 122, rfl⟩
abbrev main_call4_c_1 : Ref sig .tc := ⟨.hbm, 123, rfl⟩
abbrev main_call4_c_2 : Ref sig .tc := ⟨.hbm, 124, rfl⟩
abbrev main_call4_v6 : Ref sig .tc := ⟨.hbm, 125, rfl⟩
abbrev main_call4_v7 : Ref sig .tc := ⟨.hbm, 126, rfl⟩
abbrev main_call4_v8 : Ref sig .tc := ⟨.hbm, 127, rfl⟩
abbrev main_call4_v9 : Ref sig .tc := ⟨.hbm, 128, rfl⟩
abbrev main_call4_v10 : Ref sig .tc := ⟨.hbm, 129, rfl⟩
abbrev main_call4_v11 : Ref sig .tc := ⟨.hbm, 130, rfl⟩
abbrev main_call4_c_3 : Ref sig .tc := ⟨.hbm, 131, rfl⟩
abbrev main_call4_v12 : Ref sig .tc := ⟨.hbm, 132, rfl⟩
abbrev main_call4_v13 : Ref sig .tc := ⟨.hbm, 133, rfl⟩
abbrev main_call4_v14 : Ref sig .tc := ⟨.hbm, 134, rfl⟩
abbrev main_call4_cst : Ref sig .tc := ⟨.hbm, 135, rfl⟩
abbrev main_call4_v15 : Ref sig .tc := ⟨.hbm, 136, rfl⟩
abbrev main_v11 : Ref sig .tc := ⟨.hbm, 137, rfl⟩
abbrev main_v12 : Ref sig .tc := ⟨.hbm, 138, rfl⟩
abbrev main_v13 : Ref sig .tc := ⟨.hbm, 139, rfl⟩
abbrev main_v14 : Ref sig .tc := ⟨.hbm, 140, rfl⟩
abbrev main_v15 : Ref sig .tc := ⟨.hbm, 141, rfl⟩
abbrev main_v16 : Ref sig .tc := ⟨.hbm, 142, rfl⟩
abbrev main_v17 : Ref sig .tc := ⟨.hbm, 143, rfl⟩
abbrev main_cst : Ref sig .tc := ⟨.hbm, 144, rfl⟩
abbrev main_v18 : Ref sig .tc := ⟨.hbm, 145, rfl⟩
abbrev main_v19 : Ref sig .tc := ⟨.hbm, 146, rfl⟩
abbrev main_cst_0 : Ref sig .tc := ⟨.hbm, 147, rfl⟩
abbrev main_v20 : Ref sig .tc := ⟨.hbm, 148, rfl⟩
abbrev main_v21 : Ref sig .tc := ⟨.hbm, 149, rfl⟩
abbrev main_v22 : Ref sig .tc := ⟨.hbm, 150, rfl⟩
abbrev main_cst_1 : Ref sig .tc := ⟨.hbm, 151, rfl⟩
abbrev main_v23 : Ref sig .tc := ⟨.hbm, 152, rfl⟩
abbrev main_cst_2 : Ref sig .tc := ⟨.hbm, 153, rfl⟩
abbrev main_v24 : Ref sig .tc := ⟨.hbm, 154, rfl⟩
abbrev main_v25 : Ref sig .tc := ⟨.hbm, 155, rfl⟩
abbrev main_v26 : Ref sig .tc := ⟨.hbm, 156, rfl⟩
abbrev main_v27 : Ref sig .tc := ⟨.hbm, 157, rfl⟩
abbrev main_v28 : Ref sig .tc := ⟨.hbm, 158, rfl⟩
abbrev main_v29 : Ref sig .tc := ⟨.hbm, 159, rfl⟩
abbrev main_cst_3 : Ref sig .tc := ⟨.hbm, 160, rfl⟩
abbrev main_v30 : Ref sig .tc := ⟨.hbm, 161, rfl⟩
abbrev main_v31 : Ref sig .tc := ⟨.hbm, 162, rfl⟩
abbrev main_v32 : Ref sig .tc := ⟨.hbm, 163, rfl⟩
abbrev main_v33 : Ref sig .tc := ⟨.hbm, 164, rfl⟩
abbrev main_v34 : Ref sig .tc := ⟨.hbm, 165, rfl⟩
abbrev main_v35 : Ref sig .tc := ⟨.hbm, 166, rfl⟩
abbrev main_cst_4 : Ref sig .tc := ⟨.hbm, 167, rfl⟩
abbrev main_v36 : Ref sig .tc := ⟨.hbm, 168, rfl⟩
abbrev main_v37 : Ref sig .tc := ⟨.hbm, 169, rfl⟩
abbrev main_v38 : Ref sig .tc := ⟨.hbm, 170, rfl⟩
abbrev main_v39 : Ref sig .tc := ⟨.hbm, 171, rfl⟩
abbrev main_v40 : Ref sig .tc := ⟨.hbm, 172, rfl⟩
abbrev main_v41 : Ref sig .tc := ⟨.hbm, 173, rfl⟩
abbrev main_v42 : Ref sig .tc := ⟨.hbm, 174, rfl⟩
abbrev main_v43 : Ref sig .tc := ⟨.hbm, 175, rfl⟩
abbrev main_v44 : Ref sig .tc := ⟨.hbm, 176, rfl⟩
abbrev main_v45 : Ref sig .tc := ⟨.hbm, 177, rfl⟩
abbrev main_v46 : Ref sig .tc := ⟨.hbm, 178, rfl⟩

abbrev nD : Nat := 1
abbrev τ : Topo := Topo.v7x

variable {F : FTy → Type} [FloatOps F]
-- ==== Proof.Block.lean ====
/-
  What the kernel body computes, over the extended reals: from the table `wb` of the weights' columns with the bias as
  the last entry of each row, and the transposed features `x`, it stores the product of the weights' part with `x` plus
  the bias of the row.
-/
module

public import proofs.«01_k».proof.Proof.Gen.KernelIdeal.Frame
public import Idealize.ShloMosaic.Lib.Pointwise
public import Idealize.ShloMosaic.Lib.Pipeline.ValueKit

@[expose] public section

noncomputable section

namespace Cert.WideScore

open Idealize.ShloMosaic Idealize.ShloMosaic.TcCoe Cert.KernelIdeal Cert.KernelIdeal.Gen

/-- The offsets of a block that is the whole array are zero. -/
theorem origin : (![0, 0] : Fin 2 → Nat) = fun _ => 0 := funext fun a => by fin_cases a <;> rfl

/-- At any instance the body leaves its one payload of the two whole blocks: it loads both in full and stores once. -/
theorem body_eq_payload {F : FTy → Type} [FloatOps F] (wb : Vec F S4x201 .f32) (x : Vec F S200x4096 .f32) :
    out0_2 wb x = k0_pay1 wb x := by
  unfold out0_2
  rw [View.canon_unit_zero origin, View.ld_unit_zero (S := S4x201) origin, View.ld_unit_zero (S := S200x4096) origin]

set_option maxRecDepth 16384 in
/-- Over the extended reals the payload at row `j` and column `b`: the inner product of the row's first 200 entries with
    column `b` of the features, plus the row's last entry. -/
theorem payload_apply (wb : Vec Ideal S4x201 .f32) (x : Vec Ideal S200x4096 .f32) (j : Fin 4) (b : Fin 4096) :
    k0_pay1 wb x (ix2 j b)
      = (∑ k : Fin 200, wb (ix2 j ⟨k.val, by omega⟩) * x (ix2 k b)) + wb (ix2 j ⟨200, by omega⟩) := by
  pointwise [k0_pay1]

end Cert.WideScore

end
-- ==== Proof.Reference.lean ====
/-
  What the reference computes, over the extended reals: entry `(b, j)` of its result is the inner product of row `b` of
  the features with column `j` of the wide weights, plus bias `j`.
-/
module

public import proofs.«01_k».proof.Proof.Gen.ReferenceIdeal.Run
public import Idealize.ShloMosaic.Lib.Pointwise

@[expose] public section

noncomputable section

namespace Cert.WideScore

open Idealize.ShloMosaic

/-- The wide score as mathematics: features times weights plus bias. -/
def wide (x : FVec Ideal ⟨2, ![4096, 200]⟩ .f32) (w : FVec Ideal ⟨2, ![200, 4]⟩ .f32) (bias : FVec Ideal ⟨1, ![4]⟩ .f32) :
    FVec Ideal ⟨2, ![4096, 4]⟩ .f32 :=
  fun i => (∑ k : Fin 200, x (ix2 (i 0) k) * w (ix2 k (i 1))) + bias (ix1 (i 1))

open Cert.ReferenceIdeal Cert.ReferenceIdeal.Gen in
set_option maxRecDepth 16384 in
/-- The reference's result term, the host product with the bias broadcast along the rows, is `wide`. -/
theorem reference_eq_wide (x : FVec Ideal S4096x200 .f32) (w : FVec Ideal S200x4 .f32) (bias : FVec Ideal S4 .f32) :
    addf (Host.dotGeneral dot_S4096x200_S200x4_S4096x4_1_0_0_1_n_n none x w)
        (broadcastInDim S4096x4 ![0, 1] Facts₀.bcast_S1x4_S4096x4_0_1 (broadcastInDim S1x4 ![1] Facts₀.bcast_S4_S1x4_1 bias))
      = wide x w bias := by
  funext i
  idx_vars i
  pointwise [wide]

end Cert.WideScore

end
-- ==== Proof.KernelRun.lean ====
/-
  The kernel's run, over the extended reals: its result array ends holding the transpose of what the body stores, and
  that is the product of the features with the wide weights plus the bias, element by element.
-/
module

public import proofs.«01_k».proof.Proof.Block
public import proofs.«01_k».proof.Proof.Reference
public import Idealize.ShloMosaic.Lib.StableHlo.Run

@[expose] public section

noncomputable section

namespace Cert.WideScore

open Idealize.ShloMosaic Idealize.ShloMosaic.TcCoe Idealize.SL.Sem Cert.KernelIdeal Cert.KernelIdeal.Gen
open Idealize.ShloMosaic.StableHlo

/-- The table that the host code makes of the weights and the bias: the bias as one more row, then transposed. -/
def table {F : FTy → Type} [FloatOps F] (w : FVec F S200x4 .f32) (bias : FVec F S4 .f32) : FVec F S4x201 .f32 :=
  transpose S4x201 [1, 0]
    (concatenate S201x4 0 [⟨S200x4, w⟩, ⟨S1x4, broadcastInDim S1x4 ![1] Facts₀.bcast_S4_S1x4_1 bias⟩]
      Facts₀.concatenates_S200x4_S1x4_S201x4_d0)
    Facts₀.transposes_S201x4_S4x201_1_0

/-- The transposed features. -/
def features {F : FTy → Type} [FloatOps F] (x : FVec F S4096x200 .f32) : FVec F S200x4096 .f32 :=
  transpose S200x4096 [1, 0] x Facts₀.transposes_S4096x200_S200x4096_1_0

set_option maxRecDepth 16384 in
/-- An entry of the table below the last of its row is a weight. -/
theorem table_weight (w : FVec Ideal S200x4 .f32) (bias : FVec Ideal S4 .f32) (j : Fin 4) (k : Fin 200) :
    table w bias (ix2 j ⟨k.val, by omega⟩) = w (ix2 k j) := by
  pointwise [table]

set_option maxRecDepth 16384 in
/-- The last entry of a row of the table is the bias. -/
theorem table_bias (w : FVec Ideal S200x4 .f32) (bias : FVec Ideal S4 .f32) (j : Fin 4) :
    table w bias (ix2 j ⟨200, by omega⟩) = bias (ix1 j) := by
  pointwise [table]

set_option maxRecDepth 16384 in
/-- An entry of the transposed features is the entry of the features with its indices exchanged. -/
theorem features_apply (x : FVec Ideal S4096x200 .f32) (k : Fin 200) (b : Fin 4096) :
    features x (ix2 k b) = x (ix2 b k) := by
  pointwise [features]

/-- The result of the whole kernel as a term: host code, body, and the closing transpose. -/
def result {F : FTy → Type} [FloatOps F] (x : FVec F S4096x200 .f32) (w : FVec F S200x4 .f32) (bias : FVec F S4 .f32) :
    FVec F S4096x4 .f32 :=
  transpose S4096x4 [1, 0] (k0_pay1 (table w bias) (features x)) Facts₀.transposes_S4x4096_S4096x4_1_0

set_option maxRecDepth 16384 in
/-- Over the extended reals that term is the wide score. -/
theorem result_eq_wide (x : FVec Ideal S4096x200 .f32) (w : FVec Ideal S200x4 .f32) (bias : FVec Ideal S4 .f32) :
    result x w bias = wide x w bias := by
  funext i
  obtain ⟨b, j, rfl⟩ : ∃ (b : Fin 4096) (j : Fin 4), i = ix2 b j := ⟨i 0, i 1, eq_ix2 i⟩
  have hr : result x w bias (ix2 b j) = k0_pay1 (table w bias) (features x) (ix2 j b) := by
    pointwise [result]
  rw [hr, payload_apply, table_bias]
  unfold wide
  refine congrArg (· + bias (ix1 j)) (Finset.sum_congr rfl fun k _ => ?_)
  rw [table_weight, features_apply, mul_comm]
  rfl

variable {F : FTy → Type} [FloatOps F]
variable (m : (ℓ : Loc nD τ sig) → Buf (Elt F) ℓ) (ρ : Dev nD → PrngReg)

/-- The region finds the table in its first operand. -/
theorem entry_table (c : Dev nD) :
    V m c main_v3 = table (m ((c.tc : Thread nD τ).loc main_arg14)) (m ((c.tc : Thread nD τ).loc main_arg15)) := by
  show StableHlo.after (List.flatten [hostOps0]) (fun b => m (c, b)) _ = _
  simp only [hostOps0, List.flatten_cons, List.flatten_nil, List.append_nil]
  after_results
  rfl

/-- The region finds the transposed features in its second operand. -/
theorem entry_features (c : Dev nD) :
    V m c main_v0 = features (m ((c.tc : Thread nD τ).loc main_arg4)) := by
  show StableHlo.after (List.flatten [hostOps0]) (fun b => m (c, b)) _ = _
  simp only [hostOps0, List.flatten_cons, List.flatten_nil, List.append_nil]
  after_results
  rfl

/-- The grid's one point. -/
def point : Fin cfg0.N := ⟨0, by decide⟩

/-- At that point the first operand's block is the whole table. -/
theorem block_table (c : Dev nD) : iblk m c 0 point = V m c main_v3 :=
  Memref.read_access_unit_zero (Elt F) main_v3 (funext fun a => by fin_cases a <;> decide)
    (fun a => by fin_cases a <;> decide) (V m c main_v3)

/-- And the second operand's block is the whole array of features. -/
theorem block_features (c : Dev nD) : iblk m c 1 point = V m c main_v0 :=
  Memref.read_access_unit_zero (Elt F) main_v0 (funext fun a => by fin_cases a <;> decide)
    (fun a => by fin_cases a <;> decide) (V m c main_v0)

/-- The region leaves the body's payload of these two arrays in its output. -/
theorem region_out (c : Dev nD) :
    (dats m 0 c).arrAt 2 cfg0.N = k0_pay1 (V m c main_v3) (V m c main_v0) := by
  refine (dats m 0 c).arrAt_eq_of_after_last 2 point (by decide +kernel) _ fun j => ?_
  rw [after0_2, body_eq_payload, block_table, block_features]
  rfl

/-- The line after the region transposes the region's output into the kernel's result. -/
theorem final_result (c : Dev nD) :
    Pipeline.afterTail₀ cfgs (dats m) 0 (V0 m) [hostOps1] c main_v5
      = result (m ((c.tc : Thread nD τ).loc main_arg4)) (m ((c.tc : Thread nD τ).loc main_arg14))
          (m ((c.tc : Thread nD τ).loc main_arg15)) := by
  have h : Pipeline.withArrays (τ := τ) cfg0.spec c (V0 m c) (fun w => (dats m 0 c).arrAt w cfg0.N) (Proc.devRef .tc main_v4)
      = (dats m 0 c).arrAt 2 cfg0.N :=
    Pipeline.withArrays_arr cfg0.spec (by decide) c (V0 m c) (fun w => (dats m 0 c).arrAt w cfg0.N) 2
  unfold Pipeline.afterTail₀
  simp only [hostOps1, List.flatten_cons, List.flatten_nil, List.append_nil]
  after_results
  rw [h]
  rw [region_out, entry_table, entry_features]
  rfl

/-- The kernel's run: its result array ends holding `result` of the features, the weights and the bias. -/
theorem run_result : θ_run defs (onTc (τ := τ) (main (F := F))) ⟨m, fun _ => 0, ρ⟩ fun r => ∀ c : Dev nD,
    r.2.mem ((c.tc : Thread nD τ).loc main_v5)
      = result (m ((c.tc : Thread nD τ).loc main_arg4)) (m ((c.tc : Thread nD τ).loc main_arg14))
          (m ((c.tc : Thread nD τ).loc main_arg15)) :=
  (θ_run defs _ _).mono
    (fun _ h c => ((h c).2 main_v5 (Pipeline.mem_restRefs_of main_v5 (by decide) (by decide))).trans (final_result m c))
    (run_main m ρ)

end Cert.WideScore

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import Idealize.ShloMosaic.Lib.Quiescent
public import Idealize.ShloMosaic.Adequacy
public import Idealize.ShloMosaic.Init

@[expose] public section

noncomputable section

namespace Cert.Proof

open Idealize.ShloMosaic Idealize.SL.Sem

/-- The reference terminates, leaves its arguments unchanged, and has no semaphore that could be left counting. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- Over the extended reals both programs end with the wide score of the same features, weights and bias. -/
theorem same_score : Cert.algebraic_KernelIdeal_ReferenceIdeal := by
  intro m ρ m' ρ' _ hargs
  refine ⟨fun c => WideScore.wide (m ((c.tc : Thread Cert.KernelIdeal.nD Cert.KernelIdeal.τ).loc Cert.KernelIdeal.main_arg4))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15)), ?_, ?_⟩
  · exact (θ_run Cert.KernelIdeal.defs _ _).mono
      (fun _ h c => ⟨(h.1 c).trans (WideScore.result_eq_wide _ _ _), h.2 c⟩)
      (θ_run_and (WideScore.run_result m ρ) (Cert.KernelIdeal.Gen.unchanged m ρ))
  · refine (θ_run Cert.ReferenceIdeal.defs _ _).mono (fun _ h c => ⟨(h c).1.trans ?_, (h c).2⟩)
      (Cert.ReferenceIdeal.Value.run (F := Ideal) m' ρ')
    obtain ⟨-, -, -, -, hx, -, -, -, -, -, -, -, -, -, hw, hb⟩ := hargs c
    exact (WideScore.reference_eq_wide _ _ _).trans (by rw [hx, hw, hb])

/-- The whole statement: side conditions, frames, idealization and the equality of the two results. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, frame_reference, trivial,
    same_score⟩

end Cert.Proof

end
